-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_nonnegative [hPre_labels_nonnegative : Cert.Pre_labels_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_labels_nonnegative.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_nonnegative [hPre_labels_nonnegative : Cert.Pre_labels_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_nonnegative.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_labels_nonnegative [hKernelIdeal : Cert.KernelIdeal.Facts] [hPre_labels_nonnegative : Cert.Pre_labels_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_labels_nonnegative [hReferenceIdeal : Cert.ReferenceIdeal.Facts] [hPre_labels_nonnegative : Cert.Pre_labels_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_labels_nonnegative [hKernelIdeal : Cert.KernelIdeal.Facts] [hReferenceIdeal : Cert.ReferenceIdeal.Facts] [hPre_labels_nonnegative : Cert.Pre_labels_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_labels_nonnegative : Cert.Pre_labels_nonnegative.Facts),
    quiescent_Kernel (hKernel := hKernel)
    ∧ quiescent_KernelIdeal (hKernelIdeal := hKernelIdeal)
    ∧ quiescent_KernelIdeal_pre_labels_nonnegative (hKernelIdeal := hKernelIdeal) (hPre_labels_nonnegative := hPre_labels_nonnegative)
    ∧ quiescent_ReferenceIdeal (hReferenceIdeal := hReferenceIdeal)
    ∧ quiescent_ReferenceIdeal_pre_labels_nonnegative (hReferenceIdeal := hReferenceIdeal) (hPre_labels_nonnegative := hPre_labels_nonnegative)
    ∧ preserves_Kernel_KernelIdeal
    ∧ algebraic_KernelIdeal_ReferenceIdeal_pre_labels_nonnegative (hKernelIdeal := hKernelIdeal) (hReferenceIdeal := hReferenceIdeal) (hPre_labels_nonnegative := hPre_labels_nonnegative)
-- ==== Pre_labels_nonnegative.lean ====
abbrev S4096x26 : Shape := ⟨2, ![4096, 26]⟩
abbrev S_ : Shape := ⟨0, ![]⟩

class Facts : Prop where
  bcast_S_S4096x26 : S_.BroadcastsInDim S4096x26 (![] : Fin 0 → Fin S4096x26.rank)
  reducesTo_S4096x26_S_d0_1 : S4096x26.ReducesTo [0, 1] S_
  h_S_ : 0 < S_.numel

variable [Facts]

def fn {F : FTy → Type} [FloatOps F] (main_arg0 : IVec S4096x26 32) : IVec S_ 1 :=
  let main_c : IVec S_ 32 := constantI S_ 32 0#32
  let main_v0 : IVec S4096x26 32 := broadcastInDim S4096x26 ![] bcast_S_S4096x26 main_c
  let main_v1 : IVec S4096x26 1 := cmpi .sge main_arg0 main_v0
  let main_c_0 : IVec S_ 1 := constantI S_ 1 1#1
  let main_v2 : IVec S_ 1 := (fun x v => Host.reduce IntOp.andi x v reducesTo_S4096x26_S_d0_1 h_S_) main_v1 main_c_0
  main_v2
-- ==== Kernel.lean ====
abbrev S4096x26 : Shape := ⟨2, ![4096, 26]⟩
abbrev S4096x26x1 : Shape := ⟨3, ![4096, 26, 1]⟩
abbrev S4096x26x1000 : Shape := ⟨3, ![4096, 26, 1000]⟩
abbrev S64x26x1 : Shape := ⟨3, ![64, 26, 1]⟩
abbrev S64x26x1000 : Shape := ⟨3, ![64, 26, 1000]⟩

abbrev nBuf : Space → Nat
  | .hbm => 3
  | .vmem => 4
  | .smem => 0
  | _ => 0

abbrev bufTy : (tb : Table) → Fin (tcTables nBuf tb) → BufTy
  | .hbm, ⟨0, _⟩ => ⟨S4096x26, .i32⟩
  | .hbm, ⟨1, _⟩ => ⟨S4096x26x1, .i32⟩
  | .hbm, ⟨2, _⟩ => ⟨S4096x26x1000, .f32⟩
  | .local _ .vmem, ⟨0, _⟩ => ⟨S64x26x1, .i32⟩
  | .local _ .vmem, ⟨1, _⟩ => ⟨S64x26x1, .i32⟩
  | .local _ .vmem, ⟨2, _⟩ => ⟨S64x26x1000, .f32⟩
  | .local _ .vmem, ⟨3, _⟩ => ⟨S64x26x1000, .f32⟩
  | _, _ => ⟨S4096x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x26x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x26x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x26 : Shape := ⟨2, ![4096, 26]⟩
abbrev S106496 : Shape := ⟨1, ![106496]⟩
abbrev S_ : Shape := ⟨0, ![]⟩
abbrev S106496x1000 : Shape := ⟨2, ![106496, 1000]⟩
abbrev S106496x1 : Shape := ⟨2, ![106496, 1]⟩
abbrev S106496x2 : Shape := ⟨2, ![106496, 2]⟩
abbrev S4096x26x1000 : Shape := ⟨3, ![4096, 26, 1000]⟩

abbrev nBuf : Space → Nat
  | .hbm => 26
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S106496, .i32⟩
  | .hbm, ⟨2, _⟩ => ⟨S_, .f32⟩
  | .hbm, ⟨3, _⟩ => ⟨S106496x1000, .f32⟩
  | .hbm, ⟨4, _⟩ => ⟨S106496, .i32⟩
  | .hbm, ⟨5, _⟩ => ⟨S_, .i32⟩
  | .hbm, ⟨6, _⟩ => ⟨S106496, .i32⟩
  | .hbm, ⟨7, _⟩ => ⟨S106496, .i1⟩
  | .hbm, ⟨8, _⟩ => ⟨S_, .i32⟩
  | .hbm, ⟨9, _⟩ => ⟨S106496, .i32⟩
  | .hbm, ⟨10, _⟩ => ⟨S106496, .i32⟩
  | .hbm, ⟨11, _⟩ => ⟨S106496, .i32⟩
  | .hbm, ⟨12, _⟩ => ⟨S_, .i32⟩
  | .hbm, ⟨13, _⟩ => ⟨S106496, .i32⟩
  | .hbm, ⟨14, _⟩ => ⟨S106496, .i1⟩
  | .hbm, ⟨15, _⟩ => ⟨S_, .i32⟩
  | .hbm, ⟨16, _⟩ => ⟨S106496, .i32⟩
  | .hbm, ⟨17, _⟩ => ⟨S106496, .i32⟩
  | .hbm, ⟨18, _⟩ => ⟨S106496, .i32⟩
  | .hbm, ⟨19, _⟩ => ⟨S106496x1, .i32⟩
  | .hbm, ⟨20, _⟩ => ⟨S106496x1, .i32⟩
  | .hbm, ⟨21, _⟩ => ⟨S106496x2, .i32⟩
  | .hbm, ⟨22, _⟩ => ⟨S_, .f32⟩
  | .hbm, ⟨23, _⟩ => ⟨S106496, .f32⟩
  | .hbm, ⟨24, _⟩ => ⟨S106496x1000, .f32⟩
  | .hbm, ⟨25, _⟩ => ⟨S4096x26x1000, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.OneHot.lean ====
/-
  The function that both programs compute, over the extended reals: the one-hot encoding of a table of labels.
  Nothing here names a program.
-/
module

public import Idealize.ShloMosaic.PureOps
public import Idealize.ShloMosaic.Lib.ValueIdxCore
public import Idealize.ShloMosaic.Lib.IdealHost
public import Idealize.ShloMosaic.Lib.WordCmp

@[expose] public section

noncomputable section

namespace Cert.OneHot

open Idealize.ShloMosaic Idealize.ShloMosaic.ValueIdx

/-- The labels' shape: 4096 rows of 26 features. -/
abbrev Labels : Shape := ⟨2, ![4096, 26]⟩
/-- The result's shape: a row of 1000 classes for each label. -/
abbrev Encoded : Shape := ⟨3, ![4096, 26, 1000]⟩

/-- One where the label is the word of class `k`, zero elsewhere. -/
def hot (label : BitVec 32) (k : ℕ) : EReal := if label = BitVec.ofNat 32 k then 1 else 0

/-- The one-hot encoding of a table of labels: at `(r, f, k)`, one if label `(r, f)` is `k` and zero if not. -/
def encode (y : IVec Labels 32) : FVec Ideal Encoded .f32 := fun i =>
  hot (y (ix2 (⟨(i 0).val, (i 0).isLt⟩ : Fin 4096) (⟨(i 1).val, (i 1).isLt⟩ : Fin 26))) (i 2).val

/-- The encoding read at an index whose coordinates are given. -/
theorem encode_at (y : IVec Labels 32) (i : Encoded.Idx) (r : Fin 4096) (f : Fin 26) (k : ℕ)
    (h0 : (i 0).val = r.val) (h1 : (i 1).val = f.val) (h2 : (i 2).val = k) : hot (y (ix2 r f)) k = encode y i := by
  subst h2
  unfold encode
  rw [show (⟨(i 0).val, (i 0).isLt⟩ : Fin 4096) = r from Fin.ext h0, show (⟨(i 1).val, (i 1).isLt⟩ : Fin 26) = f from Fin.ext h1]

/-- The comparison of the class number with the label, widened to a word and converted to a float, is `hot`. -/
theorem convert_compare (label : BitVec 32) (k : ℕ) :
    (FloatOps.sitofp .f32 ((IntOp.cmpi .eq (BitVec.ofNat 32 k) label).setWidth 32) : Ideal .f32) = hot label k := by
  rw [WordCmp.cmpi_eq_eq]
  unfold hot
  show ((((BitVec.ofBool (decide (BitVec.ofNat 32 k = label))).setWidth 32).toInt : ℝ) : EReal) = _
  by_cases h : label = BitVec.ofNat 32 k
  · rw [if_pos h, decide_eq_true h.symm]
    have e : ((BitVec.ofBool true).setWidth 32).toInt = 1 := by decide
    rw [e]; norm_num
  · rw [if_neg h, decide_eq_false fun q => h q.symm]
    have e : ((BitVec.ofBool false).setWidth 32).toInt = 0 := by decide
    rw [e]; norm_num

/-- A label that is not negative, read signed, is the number `k` below `2 ^ 31` exactly when it is the word of `k`. -/
theorem toInt_eq_iff (label : BitVec 32) (k : ℕ) (hk : k < 2 ^ 31) : label.toInt = (k : ℤ) ↔ label = BitVec.ofNat 32 k := by
  constructor
  · intro h
    apply BitVec.eq_of_toInt_eq
    rw [h, BitVec.toInt_ofNat', Int.bmod_eq_of_le] <;> omega
  · rintro rfl
    rw [BitVec.toInt_ofNat', Int.bmod_eq_of_le] <;> omega

end Cert.OneHot

end
-- ==== Proof.KernelValue.lean ====
/-
  What the kernel's result array holds after the run, at the ideal instance: the one-hot encoding of the labels. Grid point
  `t` writes rows `64 t` to `64 t + 63`, and the 64 points' blocks cover the array.
-/
module

public import proofs.«01_k».proof.Proof.OneHot
public import proofs.«01_k».proof.Proof.Gen.KernelIdeal.Value
public import Idealize.ShloMosaic.Lib.Pipeline.Value
public import Idealize.ShloMosaic.Lib.StableHlo.Run

@[expose] public section

noncomputable section

namespace Cert.KernelIdeal.Blocks

open Cert.KernelIdeal Cert.KernelIdeal.Gen Idealize.ShloMosaic Idealize.ShloMosaic.TcCoe Idealize.SL.Sem
open Idealize.ShloMosaic.ValueIdx Cert.OneHot
open Idealize.ShloMosaic.Pipeline (Dat)

variable (m : (ℓ : Loc nD τ sig) → Buf (Elt Ideal) ℓ) (ρ : Dev nD → PrngReg)

/-- The labels of device `c` as launched. -/
abbrev labels (c : Dev nD) : IVec Labels 32 := m ((c : Thread nD τ).loc main_arg0)

/-- The result: the encoding of the labels. -/
abbrev result (c : Dev nD) : Buf (Elt Ideal) ((c : Thread nD τ).loc main_v1) := encode (labels m c)

theorem zeros : (![0, 0, 0] : Fin 3 → Nat) = fun _ => 0 := funext fun a => by fin_cases a <;> rfl

/-- The body's stored value at an index: the label of that row and feature compared with the class. -/
theorem stored_at (x : Vec Ideal S64x26x1 .i32) (j : S64x26x1000.Idx) :
    k0_pay1 x j = hot (x (ix3 (⟨(j 0).val, (j 0).isLt⟩ : Fin 64) (⟨(j 1).val, (j 1).isLt⟩ : Fin 26) (0 : Fin 1))) (j 2).val := by
  rw [← convert_compare]
  unfold k0_pay1
  rw [shapeCast_self]
  show FloatOps.sitofp .f32 ((IntOp.cmpi .eq (BitVec.ofNat 32 (0 * 1000 + (j 2).val)) (broadcastTo S64x26x1000 x _ j)).setWidth 32) = _
  rw [Nat.zero_mul, Nat.zero_add, broadcastTo_apply x _ j (ix3 (⟨(j 0).val, (j 0).isLt⟩ : Fin 64) (⟨(j 1).val, (j 1).isLt⟩ : Fin 26) (0 : Fin 1))]
  intro a
  match a with
  | ⟨0, _⟩ => rfl
  | ⟨1, _⟩ => rfl
  | ⟨2, _⟩ => rfl

/-- The host's reshape gives each label an axis of extent one. -/
theorem region_labels (c : Dev nD) (r : Fin 4096) (f : Fin 26) (k : S4096x26x1.Idx)
    (h0 : (k 0).val = r.val) (h1 : (k 1).val = f.val) : V m c main_v0 k = labels m c (ix2 r f) := by
  have e : V m c main_v0 = shapeCast S4096x26x1 (labels m c) shapeCasts_S4096x26_S4096x26x1 := by
    show StableHlo.after hostOps0 _ _ = _
    after_results <;> rfl
  rw [e]
  refine shapeCast_apply _ _ _ _ ?_
  rw [Shape.rowMajor_val_two, Shape.rowMajor_val_three]
  have h2 : (k 2).val < 1 := (k 2).isLt
  show r.val * 26 + f.val = ((k 0).val * 26 + (k 1).val) * 1 + (k 2).val
  omega

/-- Both windows' blocks at point `t` are number `t` on the rows and number 0 on the other axes. -/
theorem index_at : ∀ t : Fin cfg0.N, (win0_0.index t 0 = t.val ∧ win0_0.index t 1 = 0 ∧ win0_0.index t 2 = 0)
    ∧ (win0_1.index t 0 = t.val ∧ win0_1.index t 1 = 0 ∧ win0_1.index t 2 = 0) :=
  (by decide +kernel : ∀ t : Fin grid0.N, _)

/-- What point `t` writes back is its block of the encoding. -/
theorem flushed_eq (c : Dev nD) (t : Fin cfg0.N) :
    (dats m 0 c).flushed 1 t = ((cfg0.win 1).blk t).view.read (Elt Ideal) (result m c) := by
  rw [Value.flushed1]
  unfold out0_1
  rw [View.canon_unit_zero zeros, View.ld_unit_zero zeros]
  obtain ⟨⟨a0, a1, a2⟩, b0, b1, b2⟩ := index_at t
  funext j
  rw [View.read_apply]
  show k0_pay1 (iblk m c 0 t) j = encode (labels m c) _
  rw [stored_at]
  unfold iblk
  rw [View.read_apply]
  show hot (V m c main_v0 _) _ = encode (labels m c) (((cfg0.win 1).blk t).view.emb j)
  have j0 : (j 0).val < 64 := (j 0).isLt
  have j1 : (j 1).val < 26 := (j 1).isLt
  have ht : t.val < 64 := t.isLt
  rw [region_labels m c ⟨t.val * 64 + (j 0).val, by omega⟩ ⟨(j 1).val, by omega⟩]
  · have e0 : (((cfg0.win 1).blk t).view.emb j 0).val = t.val * 64 + (j 0).val := by
      show win0_1.index t 0 * 64 + 1 * (j 0).val = _
      rw [b0]; omega
    have e1 : (((cfg0.win 1).blk t).view.emb j 1).val = (j 1).val := by
      show win0_1.index t 1 * 26 + 1 * (j 1).val = _
      rw [b1]; omega
    have e2 : (((cfg0.win 1).blk t).view.emb j 2).val = (j 2).val := by
      show win0_1.index t 2 * 1000 + 1 * (j 2).val = _
      rw [b2]; omega
    exact encode_at _ _ _ _ _ e0 e1 e2
  · show win0_0.index t 0 * 64 + 1 * (j 0).val = t.val * 64 + (j 0).val
    rw [a0]; omega
  · show win0_0.index t 1 * 26 + 1 * (j 1).val = (j 1).val
    rw [a1]; omega

/-- Every index of the result lies in the block of the point that its row names. -/
theorem covered (i : S4096x26x1000.Idx) :
    ∃ t : Fin cfg0.N, (cfg0.win 1).flush t = true ∧ i ∈ ((cfg0.win 1).blk t).view.set := by
  have i0 : (i 0).val < 4096 := (i 0).isLt
  have i1 : (i 1).val < 26 := (i 1).isLt
  have i2 : (i 2).val < 1000 := (i 2).isLt
  have hN : cfg0.N = 64 := N_0
  refine ⟨⟨(i 0).val / 64, by omega⟩, flush0_1 _, ?_⟩
  generalize ht : (⟨(i 0).val / 64, _⟩ : Fin cfg0.N) = t
  have hv : t.val = (i 0).val / 64 := by rw [← ht]
  obtain ⟨-, b0, b1, b2⟩ := index_at t
  show i ∈ ((View.whole main_v1).slice (win0_1.rect t)).set
  rw [View.set_slice_whole, Rect.mem_set_unit]
  intro a
  match a with
  | ⟨0, _⟩ =>
    show win0_1.index t 0 * 64 ≤ (i 0).val ∧ (i 0).val < win0_1.index t 0 * 64 + 64
    rw [b0]; omega
  | ⟨1, _⟩ =>
    show win0_1.index t 1 * 26 ≤ (i 1).val ∧ (i 1).val < win0_1.index t 1 * 26 + 26
    rw [b1]; omega
  | ⟨2, _⟩ =>
    show win0_1.index t 2 * 1000 ≤ (i 2).val ∧ (i 2).val < win0_1.index t 2 * 1000 + 1000
    rw [b2]; omega

/-- The result array ends holding the encoding. -/
theorem final (c : Dev nD) : (dats m 0 c).arrAt 1 cfg0.N = result m c :=
  (dats m 0 c).arrAt_eq_of_cover 1 (result m c) (fun t _ => flushed_eq m c t) covered

/-- The kernel's run: the result array at the encoding, the labels unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Blocks

end
-- ==== Proof.ScatterPairs.lean ====
/-
  A scatter that sets one entry of a matrix for each row of a two-column table of indices, at any sizes: where an update
  lands, and the result when the first index of each pair counts the rows. Nothing here names a program.
-/
module

public import Idealize.ShloMosaic.Lib.Routing.OpsSet
public import Idealize.ShloMosaic.Lib.Routing.OpsPair

@[expose] public section

namespace Cert.ScatterPairs

open Idealize.ShloMosaic Idealize.ShloMosaic.ValueIdx Idealize.ShloMosaic.Routing

variable {R C N w : ℕ} (d : ScatterDims (shape2 R C) (shape2 N 2) (shape1 N))
  (inserted : d.insertedWindowDims = [0, 1]) (axes : d.scatterDimsToOperandDims = [0, 1]) (vector : d.indexVectorDim = 1)
  (idx : IVec (shape2 N 2) w)

include axes in
/-- Both operand axes take a start from the index pair. -/
theorem mem_axes (q : Fin 2) : q ∈ d.scatterDimsToOperandDims := by
  rw [axes]; match q with | 0 => simp | 1 => simp

include inserted in
/-- An update is one scalar, so it has no window coordinate. -/
theorem window_zero (p : Fin N) (q : Fin 2) : d.window (ix1 p) q = 0 := by
  unfold ScatterDims.window
  rw [dif_neg]
  intro h
  have k := of_decide_eq_true (List.mem_filter.1 h).2
  rw [inserted] at k
  match q with
  | 0 => simp at k
  | 1 => simp at k

include axes vector in
/-- On axis `q` update `p` starts at entry `(p, q)` of the table, read signed. -/
theorem start_eq (p : Fin N) (q : Fin 2) : d.start (ix1 p) idx q = (idx (ix2 p q)).toInt := by
  unfold ScatterDims.start
  rw [dif_pos (mem_axes d axes q)]
  refine congrArg (fun k => (idx k).toInt) (funext fun b => Fin.ext ?_)
  match b with
  | ⟨0, _⟩ =>
    unfold ScatterDims.siIdx
    rw [dif_neg (by rw [vector]; exact Nat.zero_ne_one)]
    unfold ScatterDims.siCoord
    simp only [Fin.val_cast]
    have only : ∀ X : Fin 1, (ix1 p X).val = p.val := fun X => by rw [Subsingleton.elim X 0]
    exact only _
  | ⟨1, _⟩ =>
    unfold ScatterDims.siIdx
    rw [dif_pos (by rw [vector])]
    show List.idxOf q d.scatterDimsToOperandDims = q.val
    rw [axes]
    match q with
    | 0 => rfl
    | 1 => rfl

include inserted axes vector in
/-- Update `p` lands at `(r, k)` exactly when row `p` of the table, read signed, is the pair `r`, `k`. -/
theorem lands (p : Fin N) (r : Fin R) (k : Fin C) :
    d.resultIdx? (ix1 p) idx = some (ix2 r k) ↔ (idx (ix2 p 0)).toInt = r.val ∧ (idx (ix2 p 1)).toInt = k.val := by
  rw [resultIdx?_ix2, start_eq d axes vector, start_eq d axes vector, window_zero d inserted, window_zero d inserted]
  simp only [Nat.cast_zero, add_zero]

include inserted axes vector in
/-- Where row `p` of the table names row `p` of the matrix, and every update is `v`: an entry of row `r` is `v` if its
    column is the second index of row `r` of the table, and the operand's entry if not. -/
theorem scatter_rows {α : Type} (x : (shape2 R C).Idx → α) (u : (shape1 N).Idx → α) (v : α) (hu : ∀ p, u p = v)
    (count : ∀ p : Fin N, (idx (ix2 p 0)).toInt = p.val) (r : Fin R) (r' : Fin N) (hr : r'.val = r.val) (k : Fin C) :
    Host.scatter d (fun _ b => b) x idx u (ix2 r k) = if (idx (ix2 r' 1)).toInt = k.val then v else x (ix2 r k) := by
  by_cases h : (idx (ix2 r' 1)).toInt = k.val
  · rw [if_pos h]
    refine scatter_set_hit d x idx u _ v (fun p _ => hu p) (ix1 r') ((lands d inserted axes vector idx r' r k).2 ⟨?_, h⟩)
    rw [count, hr]
  · rw [if_neg h]
    refine scatter_set_miss d x idx u _ fun p hp => h ?_
    obtain ⟨q, rfl⟩ : ∃ q : Fin N, p = ix1 q := ⟨p 0, eq_ix1 p⟩
    obtain ⟨h0, h1⟩ := (lands d inserted axes vector idx q r k).1 hp
    rw [count] at h0
    obtain rfl : q = r' := Fin.ext (by omega)
    exact h1

end Cert.ScatterPairs
-- ==== Proof.ReferenceValue.lean ====
/-
  What the reference's result holds after the run, at the ideal instance: the one-hot encoding of the labels, when no
  label is negative. The scatter's table of indices pairs the number of each label with the label, each behind jnp's
  wrap of a negative index.
-/
module

public import proofs.«01_k».proof.Proof.OneHot
public import proofs.«01_k».proof.Proof.ScatterPairs
public import proofs.«01_k».proof.Proof.Gen.ReferenceIdeal.Run
public import proofs.«01_k».proof.Proof.Gen.Pre_labels_nonnegative
public import Idealize.ShloMosaic.Lib.Pipeline.Value
public import Idealize.ShloMosaic.Lib.ReduceAll

@[expose] public section

noncomputable section

/-! ## The precondition -/

namespace Cert.Pre_labels_nonnegative

open Idealize.ShloMosaic

/-- The printed precondition says of each label that its word is below `2 ^ 31`. -/
theorem label_lt [Facts] (y : IVec S4096x26 32) (h : fn (F := Ideal) y = fun _ => 1#1) (i : S4096x26.Idx) :
    (y i).toNat < 2 ^ 31 := by
  haveI : Subsingleton S_.Idx := ⟨fun a b => funext fun q => q.elim0⟩
  have e : IntOp.cmpi .sge (y i) 0#32 = 1#1 := Host.reduce_andi_all _ _ _ _ (fun q => q.elim0) (congrFun h _) i
  rw [WordCmp.cmpi_sge_zero] at e
  by_contra q
  rw [decide_eq_false q] at e
  exact absurd e (by decide)

end Cert.Pre_labels_nonnegative

namespace Cert.ReferenceIdeal.Rows

open Cert.ReferenceIdeal Cert.ReferenceIdeal.Gen Idealize.ShloMosaic Idealize.ShloMosaic.TcCoe Idealize.SL.Sem
open Idealize.ShloMosaic.ValueIdx Cert.OneHot

/-! ## The table of indices -/

/-- jnp's wrap of a vector of indices: `n` is added to the negative ones. -/
abbrev wrapped (n : BitVec 32) (x : IVec S106496 32) : IVec S106496 32 :=
  select (cmpi .slt x (broadcastInDim S106496 ![] bcast_S_S106496 (constantI S_ 32 0#32)))
    (addi x (broadcastInDim S106496 ![] bcast_S_S106496 (constantI S_ 32 n))) x

/-- The labels in one line. -/
abbrev flat (y : IVec Labels 32) : IVec S106496 32 := shapeCast S106496 y shapeCasts_S4096x26_S106496

/-- The table: in row `p` the number `p` and label `p`. -/
abbrev table (y : IVec Labels 32) : IVec S106496x2 32 :=
  concatenate S106496x2 1
    [⟨S106496x1, broadcastInDim S106496x1 ![0] bcast_S106496_S106496x1_0 (wrapped 106496#32 (iotaInDim S106496 32 0))⟩,
      ⟨S106496x1, broadcastInDim S106496x1 ![0] bcast_S106496_S106496x1_0 (wrapped 1000#32 (flat y))⟩]
    concatenates_S106496x1_S106496x1_S106496x2_d1

/-- The wrap leaves an index that is not negative as it is. -/
theorem wrapped_of_lt (n : BitVec 32) (x : IVec S106496 32) (p : S106496.Idx) (h : (x p).toNat < 2 ^ 31) : wrapped n x p = x p :=
  Routing.wrap_of_lt (x p) _ h

/-- A vector as a column. -/
theorem column_at (x : IVec S106496 32) (p : Fin 106496) :
    broadcastInDim S106496x1 ![0] bcast_S106496_S106496x1_0 x (ix2 p (0 : Fin 1)) = x (ix1 p) :=
  broadcastInDim_apply _ _ _ _ _ fun a => by match a with | ⟨0, _⟩ => rfl

/-- The table's first column counts the rows. -/
theorem table_count (y : IVec Labels 32) (p : Fin 106496) : (table y (ix2 p 0)).toInt = p.val := by
  have hp : p.val < 106496 := p.isLt
  have e : table y (ix2 p 0) = BitVec.ofNat 32 p.val := by
    refine (concatenate_pair_apply_left (t := S106496x2) (s₁ := S106496x1) (s₂ := S106496x1) 1 _ _ _ _ rfl (ix2 p (0 : Fin 1)) fun b => ?_).trans ?_
    · match b with
      | ⟨0, _⟩ => rfl
      | ⟨1, _⟩ => rfl
    · refine (column_at _ p).trans (wrapped_of_lt _ _ _ ?_)
      show (BitVec.ofNat 32 p.val).toNat < _
      rw [BitVec.toNat_ofNat]; omega
  rw [e]
  exact (toInt_eq_iff _ _ (by omega)).2 rfl

/-- The table's second column is the labels, none being negative. -/
theorem table_label (y : IVec Labels 32) (hy : ∀ i, (y i).toNat < 2 ^ 31) (r : Fin 4096) (f : Fin 26) (p : Fin 106496)
    (hp : p.val = r.val * 26 + f.val) : table y (ix2 p 1) = y (ix2 r f) := by
  have e : flat y (ix1 p) = y (ix2 r f) := by
    refine shapeCast_apply _ _ _ _ ?_
    rw [Shape.rowMajor_val_two, Shape.rowMajor_val_one]
    exact hp.symm
  refine (concatenate_pair_apply_right (t := S106496x2) (s₁ := S106496x1) (s₂ := S106496x1) 1 _ _ _ _ rfl rfl (ix2 p (0 : Fin 1)) (fun b hb => ?_) rfl).trans ?_
  · match b with
    | ⟨0, _⟩ => rfl
    | ⟨1, _⟩ => exact absurd rfl hb
  · refine (column_at _ p).trans ((wrapped_of_lt _ _ _ ?_).trans e)
    rw [e]; exact hy _

/-! ## The result -/

/-- The zeros that the scatter starts from, and its ones. -/
abbrev zeros : FVec Ideal S106496x1000 .f32 := broadcastInDim S106496x1000 ![] bcast_S_S106496x1000 (constant S_ .f32 0x00000000#32)
abbrev ones : FVec Ideal S106496 .f32 := broadcastInDim S106496 ![] bcast_S_S106496 (constant S_ .f32 0x3F800000#32)

/-- The scatter of ones, as rows of the result's shape, is the encoding. -/
theorem rows_eq (y : IVec Labels 32) (hy : ∀ i, (y i).toNat < 2 ^ 31) :
    shapeCast S4096x26x1000 (Host.scatter scatter_S106496x1000_S106496x2_S106496_n_01_01_1 (fun _ b => b) zeros (table y) ones)
      shapeCasts_S106496x1000_S4096x26x1000 = encode y := by
  funext i
  have i0 : (i 0).val < 4096 := (i 0).isLt
  have i1 : (i 1).val < 26 := (i 1).isLt
  have i2 : (i 2).val < 1000 := (i 2).isLt
  generalize hr : (⟨(i 0).val, i0⟩ : Fin 4096) = r
  generalize hf : (⟨(i 1).val, i1⟩ : Fin 26) = f
  generalize hk : (⟨(i 2).val, i2⟩ : Fin 1000) = k
  have vr : (i 0).val = r.val := by rw [← hr]
  have vf : (i 1).val = f.val := by rw [← hf]
  have vk : (i 2).val = k.val := by rw [← hk]
  have hp : r.val * 26 + f.val < 106496 := by omega
  rw [← encode_at y i r f k.val vr vf vk]
  refine (shapeCast_apply _ _ _ (ix2 (⟨r.val * 26 + f.val, hp⟩ : Fin 106496) k) ?_).trans ?_
  · rw [Shape.rowMajor_val_two, Shape.rowMajor_val_three]
    show (r.val * 26 + f.val) * 1000 + k.val = ((i 0).val * 26 + (i 1).val) * 1000 + (i 2).val
    rw [vr, vf, vk]
  · refine (ScatterPairs.scatter_rows scatter_S106496x1000_S106496x2_S106496_n_01_01_1 rfl rfl rfl (table y) zeros ones
      (1 : EReal) (fun p => Ideal.ofBits_one_f32) (table_count y) _ ⟨r.val * 26 + f.val, hp⟩ rfl k).trans ?_
    rw [table_label y hy r f _ rfl]
    unfold hot
    have z : zeros (ix2 (⟨r.val * 26 + f.val, hp⟩ : Fin 106496) k) = (0 : EReal) := Ideal.ofBits_zero_f32
    have small : k.val < 2 ^ 31 := by have := k.isLt; omega
    by_cases h : y (ix2 r f) = BitVec.ofNat 32 k.val
    · rw [if_pos h, if_pos ((toInt_eq_iff _ _ small).2 h)]
    · rw [if_neg h, if_neg fun q => h ((toInt_eq_iff _ _ small).1 q), z]

variable (m : (ℓ : Loc nD τ sig) → Buf (Elt Ideal) ℓ) (ρ : Dev nD → PrngReg)

/-- The reference's run: the result at the encoding of the labels, if none of them is negative; the labels unchanged. -/
theorem run (hy : ∀ (c : Dev nD) (i : Labels.Idx), ((m ((c : Thread nD τ).loc main_arg0) : IVec Labels 32) i).toNat < 2 ^ 31) :
    θ_run defs (onTc (τ := τ) (main (F := Ideal))) ⟨m, fun _ => 0, ρ⟩ fun r => ∀ c : Dev nD,
      r.2.mem ((c : Thread nD τ).loc main_v18) = encode (m ((c : Thread nD τ).loc main_arg0))
      ∧ r.2.mem ((c : Thread nD τ).loc main_arg0) = m ((c : Thread nD τ).loc main_arg0) :=
  (θ_run defs _ _).mono (fun _ h c => ⟨(h c).1.trans (rows_eq _ (hy c)), (h c).2⟩) (Value.run m ρ)

end Cert.ReferenceIdeal.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_labels_nonnegative
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Idealize.ShloMosaic.TcCoe Cert.OneHot

/-- The reference terminates, leaves the labels as they were, and has no semaphore to leave anywhere but at zero. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Kernel and reference end with the same array, the encoding of the labels, when no label is negative. -/
theorem same_encoding : Cert.algebraic_KernelIdeal_ReferenceIdeal_pre_labels_nonnegative := by
  intro m ρ m' ρ' hpre hagree
  have hy : ∀ (c : Dev Cert.ReferenceIdeal.nD) (i : Labels.Idx),
      ((m' ((c.tc : Thread Cert.ReferenceIdeal.nD Cert.ReferenceIdeal.τ).loc Cert.ReferenceIdeal.main_arg0) : IVec Labels 32) i).toNat < 2 ^ 31 := by
    intro c i
    rw [hagree c]
    exact Cert.Pre_labels_nonnegative.label_lt _ (hpre c) i
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩) (Cert.ReferenceIdeal.Rows.run m' ρ' hy)
  exact congrArg encode (hagree c)

theorem claim : Cert.Claim := ⟨Cert.Kernel.Gen.facts, Cert.KernelIdeal.Gen.facts, Cert.ReferenceIdeal.Gen.facts, Cert.Pre_labels_nonnegative.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, same_encoding⟩

end Cert.Proof

end
